-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x4096 : Shape := ⟨3, ![3, 1024, 4096]⟩
abbrev S4096x7168 : Shape := ⟨2, ![4096, 7168]⟩
abbrev S7168 : Shape := ⟨1, ![7168]⟩
abbrev S3072x4096 : Shape := ⟨2, ![3072, 4096]⟩
abbrev S1x7168 : Shape := ⟨2, ![1, 7168]⟩
abbrev S3072x7168 : Shape := ⟨2, ![3072, 7168]⟩
abbrev S1024x4096 : Shape := ⟨2, ![1024, 4096]⟩
abbrev S4096x1792 : Shape := ⟨2, ![4096, 1792]⟩
abbrev S1x1792 : Shape := ⟨2, ![1, 1792]⟩
abbrev S1024x1792 : Shape := ⟨2, ![1024, 1792]⟩
abbrev S3x1024x7168 : Shape := ⟨3, ![3, 1024, 7168]⟩

abbrev nBuf : Space → Nat
  | .hbm => 7
  | .vmem => 8
  | .smem => 0
  | _ => 0

abbrev bufTy : (tb : Table) → Fin (tcTables nBuf tb) → BufTy
  | .hbm, ⟨0, _⟩ => ⟨S3x1024x4096, .bf16⟩
  | .hbm, ⟨1, _⟩ => ⟨S4096x7168, .fp8e4m3⟩
  | .hbm, ⟨2, _⟩ => ⟨S7168, .f32⟩
  | .hbm, ⟨3, _⟩ => ⟨S3072x4096, .bf16⟩
  | .hbm, ⟨4, _⟩ => ⟨S1x7168, .f32⟩
  | .hbm, ⟨5, _⟩ => ⟨S3072x7168, .bf16⟩
  | .hbm, ⟨6, _⟩ => ⟨S3x1024x7168, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1792, .fp8e4m3⟩
  | .local _ .vmem, ⟨3, _⟩ => ⟨S4096x1792, .fp8e4m3⟩
  | .local _ .vmem, ⟨4, _⟩ => ⟨S1x1792, .f32⟩
  | .local _ .vmem, ⟨5, _⟩ => ⟨S1x1792, .f32⟩
  | .local _ .vmem, ⟨6, _⟩ => ⟨S1024x1792, .bf16⟩
  | .local _ .vmem, ⟨7, _⟩ => ⟨S1024x1792, .bf16⟩
  | _, _ => ⟨S3x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S3x1024x4096 : Shape := ⟨3, ![3, 1024, 4096]⟩
abbrev S4096x7168 : Shape := ⟨2, ![4096, 7168]⟩
abbrev S7168 : Shape := ⟨1, ![7168]⟩
abbrev S3x1024x7168 : Shape := ⟨3, ![3, 1024, 7168]⟩
abbrev S1x1x7168 : Shape := ⟨3, ![1, 1, 7168]⟩

abbrev nBuf : Space → Nat
  | .hbm => 4
  | .vmem => 4
  | .smem => 0
  | _ => 0

abbrev bufTy : (tb : Table) → Fin (tcTables nBuf tb) → BufTy
  | .hbm, ⟨0, _⟩ => ⟨S3x1024x4096, .bf16⟩
  | .hbm, ⟨1, _⟩ => ⟨S4096x7168, .fp8e4m3⟩
  | .hbm, ⟨2, _⟩ => ⟨S7168, .f32⟩
  | .hbm, ⟨3, _⟩ => ⟨S3x1024x7168, .bf16⟩
  | .local _ .vmem, ⟨0, _⟩ => ⟨S3x1024x4096, .bf16⟩
  | .local _ .vmem, ⟨1, _⟩ => ⟨S4096x7168, .fp8e4m3⟩
  | .local _ .vmem, ⟨2, _⟩ => ⟨S7168, .f32⟩
  | .local _ .vmem, ⟨3, _⟩ => ⟨S3x1024x7168, .bf16⟩
  | _, _ => ⟨S3x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Product.lean ====
/-
  What the two kernels' stored values are, element by element, over the extended reals: a sum of 4096 products of an
  activation by a weight code, times the output channel's scale. Nothing here is about runs or memory.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Proof.Product

open Idealize.ShloMosaic
open scoped BigOperators

/-- One block of the tiled kernel: the element in row `r` and column `l` of what a grid point stores is the product of row
    `r` of its activation block with column `l` of its weight block, times the scale of column `l`. -/
theorem block_apply (x : Vec Ideal Cert.KernelIdeal.S1024x4096 .bf16) (w : Vec Ideal Cert.KernelIdeal.S4096x1792 .fp8e4m3)
    (s : Vec Ideal Cert.KernelIdeal.S1x1792 .f32) (r : Fin 1024) (l : Fin 1792) :
    Cert.KernelIdeal.Gen.k0_pay1 x w s (ix2 r l)
      = (∑ k : Fin 4096, (x (ix2 r k) : EReal) * (w (ix2 k l) : EReal)) * (s (ix2 0 l) : EReal) := by
  pointwise [Cert.KernelIdeal.Gen.k0_pay1]

/-- The reference: the element of batch `b`, position `t` and output channel `o` is the product of the activation row at
    `(b, t)` with weight column `o`, times the scale of channel `o`. -/
theorem reference_apply (x : Vec Ideal Cert.ReferenceIdeal.S3x1024x4096 .bf16)
    (w : Vec Ideal Cert.ReferenceIdeal.S4096x7168 .fp8e4m3) (s : Vec Ideal Cert.ReferenceIdeal.S7168 .f32)
    (b : Fin 3) (t : Fin 1024) (o : Fin 7168) :
    Cert.ReferenceIdeal.Gen.k0_pay1 w x s (ix3 b t o)
      = (∑ k : Fin 4096, (x (ix3 b t k) : EReal) * (w (ix2 k o) : EReal)) * (s (ix1 o) : EReal) := by
  pointwise [Cert.ReferenceIdeal.Gen.k0_pay1]

end Cert.Proof.Product

end
-- ==== Proof.KernelRun.lean ====
/-
  What the tiled kernel leaves in memory over the extended reals. Its grid has 4 × 3 points; each writes one 1024 × 1792 block
  of the 3072 × 7168 array of the call, and the blocks tile that array. So the array is one function of the call's operands,
  and the result of the program is that array read as 3 × 1024 × 7168.
-/
module

public import proofs.«01_k».proof.Proof.Gen.KernelIdeal.Frame
public import proofs.«01_k».proof.Proof.Product
public import Idealize.ShloMosaic.Lib.Pipeline.Value
public import Idealize.ShloMosaic.Lib.Claim

@[expose] public section

noncomputable section

namespace Cert.Proof.KernelRun

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The whole array as a function of the call's operands: row `r` of the activations times column `o` of the codes, times
    the scale of column `o`. -/
def product (x : S3072x4096.Idx → EReal) (w : S4096x7168.Idx → EReal) (s : S1x7168.Idx → EReal) (i : S3072x7168.Idx) : EReal :=
  (∑ k : Fin 4096, x (ix2 (i 0) k) * w (ix2 k (i 1))) * s (ix2 0 (i 1))

/-- The same for the operands as the call finds them on device `c`. -/
def array (c : Dev nD) : Buf (Elt Ideal) ((c : Thread nD τ).loc main_v2) :=
  product (V m c main_v0) (V m c main_arg1) (V m c main_v1)

theorem hz : (![0, 0] : Fin 2 → Nat) = fun _ => 0 := funext fun a => by fin_cases a <;> rfl

/-- What the body leaves in its output block is its payload of the three input blocks. -/
theorem out_eq (x0 : Vec Ideal S1024x4096 .bf16) (x1 : Vec Ideal S4096x1792 .fp8e4m3) (x2 : Vec Ideal S1x1792 .f32) :
    out0_3 x0 x1 x2 = k0_pay1 x0 x1 x2 := by
  unfold out0_3
  rw [View.canon_unit_zero hz, View.ld_unit_zero (S := S1024x4096) hz, View.ld_unit_zero (S := S4096x1792) hz,
    View.ld_unit_zero (S := S1x1792) hz]

/-- How the input blocks of a grid point lie to its output block: the activations share its rows, the codes and the scales
    its columns, and the contracted axis is whole. Decided over the 12 points. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

/-- Every pair of a row block and a column block is the output block of some grid point. -/
theorem idx_onto : ∀ (a : Fin 3) (b : Fin 4), ∃ t : Fin cfg0.N,
    win0_3.index t (0 : Fin 2) = a.val ∧ win0_3.index t (1 : Fin 2) = b.val :=
  (by decide +kernel : ∀ (a : Fin 3) (b : Fin 4), ∃ t : Fin grid0.N, _)

/-- Where the output block of point `t` lies in the array. -/
theorem emb_out (t : Fin cfg0.N) (r : Fin 1024) (l : Fin 1792) :
    ((((cfg0.win 3).blk t).view.emb (ix2 r l)) (0 : Fin 2) : ℕ) = win0_3.index t (0 : Fin 2) * 1024 + r.val
    ∧ ((((cfg0.win 3).blk t).view.emb (ix2 r l)) (1 : Fin 2) : ℕ) = win0_3.index t (1 : Fin 2) * 1792 + l.val :=
  ⟨show win0_3.index t (0 : Fin 2) * 1024 + 1 * r.val = _ by omega,
    show win0_3.index t (1 : Fin 2) * 1792 + 1 * l.val = _ by omega⟩

/-- Row `r` of the activation block of point `t` is the row of the activations that the output element is in. -/
theorem iblk_x (c : Dev nD) (t : Fin cfg0.N) (r : Fin 1024) (l : Fin 1792) (k : Fin 4096) :
    iblk m c 0 t (ix2 r k) = V m c main_v0 (ix2 (((cfg0.win 3).blk t).view.emb (ix2 r l) 0) k) := by
  obtain ⟨h0, h1, -⟩ := idx_facts t
  show V m c main_v0 (((cfg0.win 0).blk t).view.emb (ix2 r k)) = _
  refine congrArg (V m c main_v0) (Shape.idx_ext₂ ?_ ?_)
  · show win0_0.index t (0 : Fin 2) * 1024 + 1 * r.val = (((cfg0.win 3).blk t).view.emb (ix2 r l) (0 : Fin 2) : ℕ)
    rw [(emb_out t r l).1]; omega
  · show win0_0.index t (1 : Fin 2) * 4096 + 1 * k.val = k.val
    omega

/-- Column `l` of the weight block of point `t` is the column of the codes that the output element is in. -/
theorem iblk_w (c : Dev nD) (t : Fin cfg0.N) (r : Fin 1024) (l : Fin 1792) (k : Fin 4096) :
    iblk m c 1 t (ix2 k l) = V m c main_arg1 (ix2 k (((cfg0.win 3).blk t).view.emb (ix2 r l) 1)) := by
  obtain ⟨-, -, h0, h1, -⟩ := idx_facts t
  show V m c main_arg1 (((cfg0.win 1).blk t).view.emb (ix2 k l)) = _
  refine congrArg (V m c main_arg1) (Shape.idx_ext₂ ?_ ?_)
  · show win0_1.index t (0 : Fin 2) * 4096 + 1 * k.val = k.val
    omega
  · show win0_1.index t (1 : Fin 2) * 1792 + 1 * l.val = (((cfg0.win 3).blk t).view.emb (ix2 r l) (1 : Fin 2) : ℕ)
    rw [(emb_out t r l).2]; omega

/-- Entry `l` of the scale block of point `t` is the scale of the column that the output element is in. -/
theorem iblk_s (c : Dev nD) (t : Fin cfg0.N) (r : Fin 1024) (l : Fin 1792) :
    iblk m c 2 t (ix2 0 l) = V m c main_v1 (ix2 0 (((cfg0.win 3).blk t).view.emb (ix2 r l) 1)) := by
  obtain ⟨-, -, -, -, h0, h1⟩ := idx_facts t
  show V m c main_v1 (((cfg0.win 2).blk t).view.emb (ix2 0 l)) = _
  refine congrArg (V m c main_v1) (Shape.idx_ext₂ ?_ ?_)
  · show win0_2.index t (0 : Fin 2) * 1 + 1 * 0 = 0
    omega
  · show win0_2.index t (1 : Fin 2) * 1792 + 1 * l.val = (((cfg0.win 3).blk t).view.emb (ix2 r l) (1 : Fin 2) : ℕ)
    rw [(emb_out t r l).2]; omega

/-- What point `t` writes back is its block of the whole array. -/
theorem flushed_eq (c : Dev nD) (t : Fin cfg0.N) :
    (dats m 0 c).flushed 3 t = ((cfg0.win 3).blk t).view.read (Elt Ideal) (array m c) := by
  show (cfg0.win 3).cut (grid0.coords t) ((dats m 0 c).after 3 t) = _
  rw [after0_3, out_eq]
  funext j
  obtain ⟨r, l, rfl⟩ : ∃ (r : Fin 1024) (l : Fin 1792), j = ix2 r l := ⟨j 0, j 1, Shape.idx_ext₂ rfl rfl⟩
  show k0_pay1 (iblk m c 0 t) (iblk m c 1 t) (iblk m c 2 t) (ix2 r l) = array m c (((cfg0.win 3).blk t).view.emb (ix2 r l))
  rw [Product.block_apply, iblk_s m c t r l]
  unfold array product
  refine congrArg (fun a : EReal => a * _) (Finset.sum_congr rfl fun k _ => ?_)
  rw [iblk_x m c t r l k, iblk_w m c t r l k]

/-- The blocks cover the array. -/
theorem covered (i : S3072x7168.Idx) :
    ∃ t : Fin cfg0.N, (cfg0.win 3).flush t = true ∧ i ∈ ((cfg0.win 3).blk t).view.set := by
  have h0 : (i 0 : ℕ) < 3072 := (i 0).isLt
  have h1 : (i 1 : ℕ) < 7168 := (i 1).isLt
  obtain ⟨t, e0, e1⟩ := idx_onto ⟨(i 0 : ℕ) / 1024, by omega⟩ ⟨(i 1 : ℕ) / 1792, by omega⟩
  refine ⟨t, flush0_3 t, ?_⟩
  have e : ((cfg0.win 3).blk t).view.emb
      (ix2 (⟨(i 0 : ℕ) % 1024, by omega⟩ : Fin 1024) (⟨(i 1 : ℕ) % 1792, by omega⟩ : Fin 1792)) = i := by
    obtain ⟨f0, f1⟩ := emb_out t ⟨(i 0 : ℕ) % 1024, by omega⟩ ⟨(i 1 : ℕ) % 1792, by omega⟩
    refine Shape.idx_ext₂ (f0.trans ?_) (f1.trans ?_)
    · rw [e0]; dsimp only; omega
    · rw [e1]; dsimp only; omega
  have h := ((cfg0.win 3).blk t).view.emb_mem_set
    (ix2 (⟨(i 0 : ℕ) % 1024, by omega⟩ : Fin 1024) (⟨(i 1 : ℕ) % 1792, by omega⟩ : Fin 1792))
  rwa [e] at h

/-- The array of the call after the run. -/
theorem final (c : Dev nD) : (dats m 0 c).arrAt 3 cfg0.N = array m c :=
  (dats m 0 c).arrAt_eq_of_cover 3 (array m c) (fun t _ => flushed_eq m c t) covered

/-- The activations as the call finds them are the first argument read as 3072 rows. -/
theorem V_x (c : Dev nD) : V m c main_v0
    = shapeCast S3072x4096 (m ((c : Thread nD τ).loc main_arg0)) shapeCasts_S3x1024x4096_S3072x4096 := by
  unfold V V0
  simp only [hostOps0, List.flatten_cons, List.flatten_nil, List.append_nil]
  after_results
  rfl

/-- The scales as the call finds them are the third argument read as one row. -/
theorem V_s (c : Dev nD) : V m c main_v1
    = shapeCast S1x7168 (m ((c : Thread nD τ).loc main_arg2)) shapeCasts_S7168_S1x7168 := by
  unfold V V0
  simp only [hostOps0, List.flatten_cons, List.flatten_nil, List.append_nil]
  after_results
  rfl

/-- The result of the program is the array of the call read as 3 × 1024 × 7168. -/
theorem tail_eq (c : Dev nD) : Pipeline.afterTail₀ cfgs (dats m) 0 (V0 m) [hostOps1] c main_v3
    = shapeCast S3x1024x7168 (array m c) shapeCasts_S3072x7168_S3x1024x7168 := by
  unfold Pipeline.afterTail₀
  simp only [hostOps1, List.flatten_cons, List.flatten_nil, List.append_nil]
  after_results
  rw [Pipeline.withArrays_arr _ (by decide) c (V0 m c) _ (3 : Fin 4)]
  exact congrArg (fun a => shapeCast S3x1024x7168 a shapeCasts_S3072x7168_S3x1024x7168) (final m c)

/-- The result of the program as a function of the program's arguments on device `c`. -/
def result (c : Dev nD) : Buf (Elt Ideal) ((c : Thread nD τ).loc main_v3) :=
  shapeCast S3x1024x7168
    (product (shapeCast S3072x4096 (m ((c : Thread nD τ).loc main_arg0)) shapeCasts_S3x1024x4096_S3072x4096)
      (m ((c : Thread nD τ).loc main_arg1))
      (shapeCast S1x7168 (m ((c : Thread nD τ).loc main_arg2)) shapeCasts_S7168_S1x7168))
    shapeCasts_S3072x7168_S3x1024x7168

/-- The run of the tiled kernel: the result is that function of the arguments, and the arguments end unchanged. -/
theorem run : θ_run (defs (F := Ideal)) (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v3 (Pipeline.mem_restRefs_of main_v3 (by decide) (by decide))).trans
        ((tail_eq m c).trans (by unfold array result; rw [V_x, V_s, V_main_arg1])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Proof.KernelRun

end
-- ==== Proof.Equation.lean ====
/-
  The tiled kernel's result and the reference's result are the same function of the arguments over the extended reals: the
  kernel's row `1024 * b + t` is the reference's position `t` of batch `b`, and both are one sum of 4096 products times a scale.
-/
module

public import proofs.«01_k».proof.Proof.KernelRun
public import proofs.«01_k».proof.Proof.Gen.ReferenceIdeal.Value

@[expose] public section

noncomputable section

namespace Cert.Proof.Equation

open Idealize.ShloMosaic Idealize.ShloMosaic.TcCoe
open Cert.KernelIdeal
open scoped BigOperators

variable (x : Vec Ideal S3x1024x4096 .bf16) (w : Vec Ideal S4096x7168 .fp8e4m3) (s : Vec Ideal S7168 .f32)

/-- The tiled kernel's product of the reshaped arguments, read back as 3 × 1024 × 7168, is the reference's value. -/
theorem product_eq (hx : S3x1024x4096.ShapeCasts S3072x4096) (hs : S7168.ShapeCasts S1x7168)
    (ho : S3072x7168.ShapeCasts S3x1024x7168) :
    shapeCast S3x1024x7168 (KernelRun.product (shapeCast S3072x4096 x hx) w (shapeCast S1x7168 s hs)) ho
      = Cert.ReferenceIdeal.Gen.k0_pay1 (F := Ideal) w x s := by
  funext i
  obtain ⟨b, t, o, rfl⟩ : ∃ (b : Fin 3) (t : Fin 1024) (o : Fin 7168), i = ix3 b t o := ⟨i 0, i 1, i 2, eq_ix3 i⟩
  rw [Product.reference_apply]
  pointwise [KernelRun.product]

end Cert.Proof.Equation

end
-- ==== Proof.lean ====
/-
  The proof of `Cert.Claim`. Each program terminates without fault and leaves its arguments unchanged (the generated frames);
  the ideal program is the kernel with no operation rewritten; and over the extended reals the tiled kernel and the reference
  end with the same result, for all arguments (Proof/Product.lean: what one block and what the reference computes;
  Proof/KernelRun.lean: what the tiled kernel leaves in memory; Proof/Equation.lean: the two are equal).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelRun
public import proofs.«01_k».proof.Proof.Equation

@[expose] public section

noncomputable section

namespace Cert.Proof

open Idealize.ShloMosaic Idealize.ShloMosaic.TcCoe Idealize.SL.Sem

/-- The tiled kernel, on words, terminates without fault, leaves its arguments unchanged and every counter at zero. -/
theorem frame_kernel : Cert.quiescent_Kernel (hKernel := Cert.Kernel.Gen.facts) :=
  fun m ρ _ => Cert.Kernel.Gen.frame m ρ

/-- The same of the tiled kernel over the extended reals. -/
theorem frame_kernelIdeal : Cert.quiescent_KernelIdeal (hKernelIdeal := Cert.KernelIdeal.Gen.facts) :=
  fun m ρ _ => Cert.KernelIdeal.Gen.frame m ρ

/-- The same of the reference over the extended reals. -/
theorem frame_referenceIdeal : Cert.quiescent_ReferenceIdeal (hReferenceIdeal := Cert.ReferenceIdeal.Gen.facts) :=
  fun m ρ _ => Cert.ReferenceIdeal.Gen.frame m ρ

/-- From memories that agree on the arguments, the tiled kernel and the reference end with the same result. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => KernelRun.result m c, KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  rw [h0, h1, h2]
  exact (Equation.product_eq _ _ _ _ _ _).symm

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
